-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_harmonics [hPre_harmonics : Cert.Pre_harmonics.Facts] (m : (ℓ : Loc Cert.KernelIdeal.nD Cert.KernelIdeal.τ Cert.KernelIdeal.sig) → Buf (Elt Ideal) ℓ) : Prop :=
  ∀ c : Dev Cert.KernelIdeal.nD,
    (Cert.Pre_harmonics.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_harmonics.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_harmonics.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_harmonics [hPre_harmonics : Cert.Pre_harmonics.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_harmonics.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_harmonics.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_harmonics.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_harmonics [hKernelIdeal : Cert.KernelIdeal.Facts] [hPre_harmonics : Cert.Pre_harmonics.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_harmonics m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_harmonics [hReferenceIdeal : Cert.ReferenceIdeal.Facts] [hPre_harmonics : Cert.Pre_harmonics.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_harmonics m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_cutoff" .f32 0x3E4CCCCD#32 ((1 / 5 : ℝ) : EReal)
  ∧ IdealRules.named_const.Statement Cert.KernelIdeal.κ "norm_times_cutoff" .f32 0x3F21E89B#32 ((Real.sqrt (2 / 5) : ℝ) : EReal)

def algebraic_KernelIdeal_ReferenceIdeal_pre_harmonics [hKernelIdeal : Cert.KernelIdeal.Facts] [hReferenceIdeal : Cert.ReferenceIdeal.Facts] [hPre_harmonics : Cert.Pre_harmonics.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_harmonics m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_harmonics : Cert.Pre_harmonics.Facts),
    quiescent_Kernel (hKernel := hKernel)
    ∧ quiescent_KernelIdeal (hKernelIdeal := hKernelIdeal)
    ∧ quiescent_KernelIdeal_pre_harmonics (hKernelIdeal := hKernelIdeal) (hPre_harmonics := hPre_harmonics)
    ∧ quiescent_ReferenceIdeal (hReferenceIdeal := hReferenceIdeal)
    ∧ quiescent_ReferenceIdeal_pre_harmonics (hReferenceIdeal := hReferenceIdeal) (hPre_harmonics := hPre_harmonics)
    ∧ preserves_Kernel_KernelIdeal
    ∧ algebraic_KernelIdeal_ReferenceIdeal_pre_harmonics (hKernelIdeal := hKernelIdeal) (hReferenceIdeal := hReferenceIdeal) (hPre_harmonics := hPre_harmonics)
-- ==== Pre_harmonics.lean ====
abbrev S3200000 : Shape := ⟨1, ![3200000]⟩
abbrev S16 : Shape := ⟨1, ![16]⟩
abbrev S10000x1 : Shape := ⟨2, ![10000, 1]⟩
abbrev S1 : Shape := ⟨1, ![1]⟩
abbrev S_ : Shape := ⟨0, ![]⟩

class Facts : Prop where
  slices_S16_S1_0 : S16.Slices ![0] S1
  bcast_S_S16 : S_.BroadcastsInDim S16 (![] : Fin 0 → Fin S16.rank)
  bcast_S1_S16_0 : S1.BroadcastsInDim S16 (![0] : Fin 1 → Fin S16.rank)
  bcast_S_S1 : S_.BroadcastsInDim S1 (![] : Fin 0 → Fin S1.rank)
  bcast_S_S3200000 : S_.BroadcastsInDim S3200000 (![] : Fin 0 → Fin S3200000.rank)

variable [Facts]

def fn {F : FTy → Type} [FloatOps F] (main_arg0 : FVec F S3200000 .f32) (main_arg1 : IVec S3200000 32) (main_arg2 : FVec F S16 .f32) (main_arg3 : FVec F S10000x1 .f32) (main_arg4 : FVec F S10000x1 .f32) : IVec S16 1 × IVec S1 1 × IVec S3200000 1 :=
  let main_v0 : FVec F S1 .f32 := (extractStridedSlice S1 ![0] · slices_S16_S1_0) main_arg2
  let main_v1 : IVec S16 32 := iotaInDim S16 32 0
  let main_v2 : FVec F S16 .f32 := sitofp .f32 main_v1
  let main_cst : FVec F S_ .f32 := constant S_ .f32 0x3F800000#32
  let main_v3 : FVec F S16 .f32 := broadcastInDim S16 ![] bcast_S_S16 main_cst
  let main_v4 : FVec F S16 .f32 := addf main_v2 main_v3
  let main_v5 : FVec F S16 .f32 := broadcastInDim S16 ![0] bcast_S1_S16_0 main_v0
  let main_v6 : FVec F S16 .f32 := mulf main_v4 main_v5
  let main_v7 : IVec S16 1 := cmpf .oeq main_arg2 main_v6
  let main_v8 : FVec F S1 .f32 := Host.absf main_v0
  let main_cst_0 : FVec F S_ .f32 := constant S_ .f32 0x7F800000#32
  let main_v9 : FVec F S1 .f32 := broadcastInDim S1 ![] bcast_S_S1 main_cst_0
  let main_v10 : IVec S1 1 := cmpf .olt main_v8 main_v9
  let main_c : IVec S_ 32 := constantI S_ 32 0#32
  let main_v11 : IVec S3200000 32 := broadcastInDim S3200000 ![] bcast_S_S3200000 main_c
  let main_v12 : IVec S3200000 1 := cmpi .sge main_arg1 main_v11
  let main_c_1 : IVec S_ 32 := constantI S_ 32 10000#32
  let main_v13 : IVec S3200000 32 := broadcastInDim S3200000 ![] bcast_S_S3200000 main_c_1
  let main_v14 : IVec S3200000 1 := cmpi .slt main_arg1 main_v13
  let main_v15 : IVec S3200000 1 := andi main_v12 main_v14
  (main_v7, main_v10, main_v15)
-- ==== Kernel.lean ====
abbrev S3200000 : Shape := ⟨1, ![3200000]⟩
abbrev S16 : Shape := ⟨1, ![16]⟩
abbrev S10000x1 : Shape := ⟨2, ![10000, 1]⟩
abbrev S25000x128 : Shape := ⟨2, ![25000, 128]⟩
abbrev S1x16 : Shape := ⟨2, ![1, 16]⟩
abbrev S_ : Shape := ⟨0, ![]⟩
abbrev S240 : Shape := ⟨1, ![240]⟩
abbrev S10000 : Shape := ⟨1, ![10000]⟩
abbrev S10240 : Shape := ⟨1, ![10240]⟩
abbrev S80x128 : Shape := ⟨2, ![80, 128]⟩
abbrev S16x3200000 : Shape := ⟨2, ![16, 3200000]⟩
abbrev S40x128 : Shape := ⟨2, ![40, 128]⟩
abbrev S16x5120 : Shape := ⟨2, ![16, 5120]⟩
abbrev S320x128 : Shape := ⟨2, ![320, 128]⟩
abbrev S8x128 : Shape := ⟨2, ![8, 128]⟩
abbrev S1x1 : Shape := ⟨2, ![1, 1]⟩
abbrev S1x128 : Shape := ⟨2, ![1, 128]⟩
abbrev S8x128x1 : Shape := ⟨3, ![8, 128, 1]⟩
abbrev S3200000x16 : Shape := ⟨2, ![3200000, 16]⟩

abbrev nBuf : Space → Nat
  | .hbm => 18
  | .vmem => 10
  | .smem => 0
  | _ => 0

abbrev bufTy : (tb : Table) → Fin (tcTables nBuf tb) → BufTy
  | .hbm, ⟨0, _⟩ => ⟨S3200000, .f32⟩
  | .hbm, ⟨1, _⟩ => ⟨S3200000, .i32⟩
  | .hbm, ⟨2, _⟩ => ⟨S16, .f32⟩
  | .hbm, ⟨3, _⟩ => ⟨S10000x1, .f32⟩
  | .hbm, ⟨4, _⟩ => ⟨S10000x1, .f32⟩
  | .hbm, ⟨5, _⟩ => ⟨S25000x128, .f32⟩
  | .hbm, ⟨6, _⟩ => ⟨S25000x128, .i32⟩
  | .hbm, ⟨7, _⟩ => ⟨S1x16, .f32⟩
  | .hbm, ⟨8, _⟩ => ⟨S_, .f32⟩
  | .hbm, ⟨9, _⟩ => ⟨S240, .f32⟩
  | .hbm, ⟨10, _⟩ => ⟨S10000, .f32⟩
  | .hbm, ⟨11, _⟩ => ⟨S10240, .f32⟩
  | .hbm, ⟨12, _⟩ => ⟨S80x128, .f32⟩
  | .hbm, ⟨13, _⟩ => ⟨S10000, .f32⟩
  | .hbm, ⟨14, _⟩ => ⟨S10240, .f32⟩
  | .hbm, ⟨15, _⟩ => ⟨S80x128, .f32⟩
  | .hbm, ⟨16, _⟩ => ⟨S16x3200000, .f32⟩
  | .hbm, ⟨17, _⟩ => ⟨S3200000x16, .f32⟩
  | .local _ .vmem, ⟨0, _⟩ => ⟨S40x128, .f32⟩
  | .local _ .vmem, ⟨1, _⟩ => ⟨S40x128, .f32⟩
  | .local _ .vmem, ⟨2, _⟩ => ⟨S40x128, .i32⟩
  | .local _ .vmem, ⟨3, _⟩ => ⟨S40x128, .i32⟩
  | .local _ .vmem, ⟨4, _⟩ => ⟨S1x16, .f32⟩
  | .local _ .vmem, ⟨5, _⟩ => ⟨S80x128, .f32⟩
  | .local _ .vmem, ⟨6, _⟩ => ⟨S80x128, .f32⟩
  | .local _ .vmem, ⟨7, _⟩ => ⟨S16x5120, .f32⟩
  | .local _ .vmem, ⟨8, _⟩ => ⟨S16x5120, .f32⟩
  | .local _ .vmem, ⟨9, _⟩ => ⟨S320x128, .f32⟩
  | _, _ => ⟨S3200000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S40x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S80x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "inv_cutoff" => some ((1 / 5 : ℝ) : EReal)
  | "norm_times_cutoff" => some ((Real.sqrt (2 / 5) : ℝ) : EReal)
  | _ => none
-- ==== ReferenceIdeal.lean ====
abbrev S3200000 : Shape := ⟨1, ![3200000]⟩
abbrev S16 : Shape := ⟨1, ![16]⟩
abbrev S10000x1 : Shape := ⟨2, ![10000, 1]⟩
abbrev S_ : Shape := ⟨0, ![]⟩
abbrev S3200000x1 : Shape := ⟨2, ![3200000, 1]⟩
abbrev S1x16 : Shape := ⟨2, ![1, 16]⟩
abbrev S3200000x16 : Shape := ⟨2, ![3200000, 16]⟩
abbrev S1 : Shape := ⟨1, ![1]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S3200000, .f32⟩
  | .hbm, ⟨1, _⟩ => ⟨S3200000, .i32⟩
  | .hbm, ⟨2, _⟩ => ⟨S16, .f32⟩
  | .hbm, ⟨3, _⟩ => ⟨S10000x1, .f32⟩
  | .hbm, ⟨4, _⟩ => ⟨S10000x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S3200000, .f32⟩
  | .hbm, ⟨11, _⟩ => ⟨S3200000, .f32⟩
  | .hbm, ⟨12, _⟩ => ⟨S3200000x1, .f32⟩
  | .hbm, ⟨13, _⟩ => ⟨S3200000x1, .f32⟩
  | .hbm, ⟨14, _⟩ => ⟨S3200000x1, .f32⟩
  | .hbm, ⟨15, _⟩ => ⟨S1x16, .f32⟩
  | .hbm, ⟨16, _⟩ => ⟨S3200000x16, .f32⟩
  | .hbm, ⟨17, _⟩ => ⟨S3200000x16, .f32⟩
  | .hbm, ⟨18, _⟩ => ⟨S3200000x16, .f32⟩
  | .hbm, ⟨19, _⟩ => ⟨S3200000x16, .f32⟩
  | .hbm, ⟨20, _⟩ => ⟨S3200000x16, .f32⟩
  | .hbm, ⟨21, _⟩ => ⟨S3200000x16, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S1, .i32⟩
  | .hbm, ⟨31, _⟩ => ⟨S_, .i32⟩
  | .hbm, ⟨32, _⟩ => ⟨S3200000x1, .i32⟩
  | .hbm, ⟨33, _⟩ => ⟨S3200000x1, .i1⟩
  | .hbm, ⟨34, _⟩ => ⟨S1x1, .i32⟩
  | .hbm, ⟨35, _⟩ => ⟨S3200000x1, .i32⟩
  | .hbm, ⟨36, _⟩ => ⟨S3200000x1, .i1⟩
  | .hbm, ⟨37, _⟩ => ⟨S3200000x1, .i1⟩
  | .hbm, ⟨38, _⟩ => ⟨S_, .i1⟩
  | .hbm, ⟨39, _⟩ => ⟨S3200000, .i1⟩
  | .hbm, ⟨40, _⟩ => ⟨S3200000x1, .f32⟩
  | .hbm, ⟨41, _⟩ => ⟨S3200000x1, .i1⟩
  | .hbm, ⟨42, _⟩ => ⟨S_, .f32⟩
  | .hbm, ⟨43, _⟩ => ⟨S3200000x1, .f32⟩
  | .hbm, ⟨44, _⟩ => ⟨S3200000x1, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S1, .i32⟩
  | .hbm, ⟨54, _⟩ => ⟨S_, .i32⟩
  | .hbm, ⟨55, _⟩ => ⟨S3200000x1, .i32⟩
  | .hbm, ⟨56, _⟩ => ⟨S3200000x1, .i1⟩
  | .hbm, ⟨57, _⟩ => ⟨S1x1, .i32⟩
  | .hbm, ⟨58, _⟩ => ⟨S3200000x1, .i32⟩
  | .hbm, ⟨59, _⟩ => ⟨S3200000x1, .i1⟩
  | .hbm, ⟨60, _⟩ => ⟨S3200000x1, .i1⟩
  | .hbm, ⟨61, _⟩ => ⟨S_, .i1⟩
  | .hbm, ⟨62, _⟩ => ⟨S3200000, .i1⟩
  | .hbm, ⟨63, _⟩ => ⟨S3200000x1, .f32⟩
  | .hbm, ⟨64, _⟩ => ⟨S3200000x1, .i1⟩
  | .hbm, ⟨65, _⟩ => ⟨S_, .f32⟩
  | .hbm, ⟨66, _⟩ => ⟨S3200000x1, .f32⟩
  | .hbm, ⟨67, _⟩ => ⟨S3200000x1, .f32⟩
  | .hbm, ⟨68, _⟩ => ⟨S3200000x16, .f32⟩
  | .hbm, ⟨69, _⟩ => ⟨S3200000x16, .f32⟩
  | .hbm, ⟨70, _⟩ => ⟨S3200000x16, .f32⟩
  | .hbm, ⟨71, _⟩ => ⟨S3200000x16, .f32⟩
  | _, _ => ⟨S3200000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v14 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩

abbrev nD : Nat := 1
abbrev τ : Topo := Topo.v7x

variable {F : FTy → Type} [FloatOps F]
-- ==== Proof.Radial.Model.lean ====
/- What one grid point of the kernel computes, written once for all of its tiles: the vector expressions that the body
   forms of its input blocks, as functions of the tile's number (0 to 4) and of the row of the tile (0 to 7). -/
module

public import proofs.«01_k».proof.Proof.Gen.KernelIdeal.Frame

@[expose] public section

noncomputable section

namespace Cert.Radial

open Idealize.ShloMosaic Cert.KernelIdeal Cert.KernelIdeal.Gen

variable {F : FTy → Type} [FloatOps F] [Named F]

/-- The recurrence `next = c * q - p` run `n` times from the pair `p`, `q`; the newest member. -/
def chain (c : FVec F S8x128 .f32) : FVec F S8x128 .f32 → FVec F S8x128 .f32 → ℕ → FVec F S8x128 .f32
  | _, q, 0 => q
  | p, q, n + 1 => chain c q (subf (mulf c q) p) n

/-- The tile of zeros. -/
def zeros : FVec F S8x128 .f32 := broadcast S8x128 (Scalar.ofBits .f32 0x00000000#32)

theorem tile_inb (v : Fin 5) : ∀ a, (![8 * v.val, 0] : Fin 2 → ℕ) a + S8x128.size a ≤ S40x128.size a := by
  revert v; decide

/-- Tile `v` of a block of 40 rows: its rows `8 v` to `8 v + 7`. -/
def tile {e : EltTy} (X : Vec F S40x128 e) (v : Fin 5) : Vec F S8x128 e :=
  View.ld X (Rect.unit ![8 * v.val, 0] S8x128.size (tile_inb v))

/-- The distances of tile `v`. -/
def dist (X0 : Vec F S40x128 .f32) (v : Fin 5) : FVec F S8x128 .f32 := shapeCast S8x128 (tile X0 v) shapeCasts_S8x128_S8x128

/-- The types of tile `v`. -/
def types (X1 : Vec F S40x128 .i32) (v : Fin 5) : IVec S8x128 32 :=
  shapeCast S8x128 (tile (F := F) (e := .i32) X1 v) shapeCasts_S8x128_S8x128

/-- The first frequency over the cutoff. -/
def freq (X2 : Vec F S1x16 .f32) : FVec F S1x1 .f32 :=
  mulf (shapeCast S1x1 (View.ld X2 (Rect.unit ![0, 0] S1x1.size inb_S1x16_S1x1_0_0)) shapeCasts_S1x1_S1x1)
    (broadcast S1x1 (Named.named κ "inv_cutoff" 0x3E4CCCCD#32))

/-- The angle of each edge. -/
def angle (X0 : Vec F S40x128 .f32) (X2 : Vec F S1x16 .f32) (v : Fin 5) : FVec F S8x128 .f32 :=
  mulf (dist X0 v) (broadcastTo S8x128 (freq X2) broadcasts_S1x1_S8x128)

/-- Its sine, -/
def sine (X0 : Vec F S40x128 .f32) (X2 : Vec F S1x16 .f32) (v : Fin 5) : FVec F S8x128 .f32 := sin (angle X0 X2 v)

/-- and twice its cosine. -/
def cosine2 (X0 : Vec F S40x128 .f32) (X2 : Vec F S1x16 .f32) (v : Fin 5) : FVec F S8x128 .f32 :=
  mulf (broadcast S8x128 (Scalar.ofBits .f32 0x40000000#32)) (cos (angle X0 X2 v))

/-- The norm over the distance. -/
def inverse (X0 : Vec F S40x128 .f32) (v : Fin 5) : FVec F S8x128 .f32 :=
  divf (broadcast S8x128 (Named.named κ "norm_times_cutoff" 0x3F21E89B#32)) (dist X0 v)

/-- The row of the table that each type names, -/
def tableRow (X1 : Vec F S40x128 .i32) (v : Fin 5) : IVec S8x128 32 := shrsi (types X1 v) (broadcast S8x128 7#32)

/-- and the lane. -/
def tableLane (X1 : Vec F S40x128 .i32) (v : Fin 5) : IVec S8x128 32 := andi (types X1 v) (broadcast S8x128 127#32)

/-- A lane number made nonnegative, as an indexed read along the lanes takes it. -/
def wrapLane (l : IVec S8x128 32) : IVec S8x128 32 :=
  shapeCast S8x128 (shapeCast S8x128x1
    (select (cmpi .slt l (broadcast S8x128 0#32)) (addi l (broadcast S8x128 128#32)) l)
    shapeCasts_S8x128_S8x128x1) shapeCasts_S8x128x1_S8x128

theorem row_inb (k : ℕ) : ∀ a, (![k % 80, 0] : Fin 2 → ℕ) a + S1x128.size a ≤ S80x128.size a := by
  have h : k % 80 < 80 := Nat.mod_lt _ (by decide)
  intro a
  match a with
  | ⟨0, _⟩ => show k % 80 + 1 ≤ 80; omega
  | ⟨1, _⟩ => show 0 + 128 ≤ 128; omega

/-- Row `k` of a table, read at the lanes `l`. -/
def leaf (T : Vec F S80x128 .f32) (l : IVec S8x128 32) (k : ℕ) : FVec F S8x128 .f32 :=
  dynamicGather 1 (broadcastTo S8x128 (shapeCast S1x128
    (shapeCast S1x128 (View.ld T (Rect.unit ![k % 80, 0] S1x128.size (row_inb k))) shapeCasts_S1x128_S1x128)
    shapeCasts_S1x128_S1x128) broadcasts_S1x128_S8x128) (wrapLane l)

/-- The rows `lo` to `hi - 1` of a table, the one that `r` names picked by halving the range (`n` bounds the depth). -/
def look (T : Vec F S80x128 .f32) (r l : IVec S8x128 32) : ℕ → ℕ → ℕ → FVec F S8x128 .f32
  | 0, lo, _ => leaf T l lo
  | n + 1, lo, hi =>
    bif (hi - lo).beq 1 then leaf T l lo
    else select (cmpi .sge r (broadcast S8x128 (BitVec.ofNat 32 ((lo + hi) / 2))))
      (look T r l n ((lo + hi) / 2) hi) (look T r l n lo ((lo + hi) / 2))

/-- The table's entry at each type of tile `v`. -/
def entry (T : Vec F S80x128 .f32) (X1 : Vec F S40x128 .i32) (v : Fin 5) : FVec F S8x128 .f32 :=
  look T (tableRow X1 v) (tableLane X1 v) 7 0 80

/-- The factor of each edge: the norm over the distance, times the type's multiplier. -/
def factor (X0 : Vec F S40x128 .f32) (X1 : Vec F S40x128 .i32) (X3 : Vec F S80x128 .f32) (v : Fin 5) : FVec F S8x128 .f32 :=
  mulf (inverse X0 v) (entry X3 X1 v)

theorem rows_inb (v : Fin 5) (j : Fin 8) : ∀ a, (![64 * v.val + 8 * j.val, 0] : Fin 2 → ℕ) a + S8x128.size a ≤ S320x128.size a := by
  intro a
  match a with
  | ⟨0, _⟩ => show 64 * v.val + 8 * j.val + 8 ≤ 320; omega
  | ⟨1, _⟩ => show 0 + 128 ≤ 128; omega

/-- What the body stores in the scratch for tile `v`: the sine of the `j + 1`-fold angle, at rows `64 v + 8 j` and on. -/
def stored (X0 : Vec F S40x128 .f32) (X2 : Vec F S1x16 .f32) (v : Fin 5) (j : Fin 8) : View.Piece (Elt F) S320x128 .f32 :=
  ⟨Rect.unit ![64 * v.val + 8 * j.val, 0] S8x128.size (rows_inb v j),
    shapeCast S8x128 (chain (cosine2 X0 X2 v) zeros (sine X0 X2 v) j.val) shapeCasts_S8x128_S8x128⟩

/-- The stores into the scratch up to tile `v`, the newest first. -/
def scratch (X0 : Vec F S40x128 .f32) (X2 : Vec F S1x16 .f32) (v : Fin 5) : List (View.Piece (Elt F) S320x128 .f32) :=
  (List.range (v.val + 1)).reverse.flatMap fun u => (List.finRange 8).reverse.map (stored X0 X2 (Fin.ofNat 5 u))

theorem pick_inb (v : Fin 5) (r : Fin 8) : ∀ a, S8x128.size a = 0 ∨
    (![64 * v.val + r.val, 0] : Fin 2 → ℕ) a + (![8, 1] : Fin 2 → ℕ) a * (S8x128.size a - 1) < S320x128.size a := by
  intro a
  match a with
  | ⟨0, _⟩ => right; show 64 * v.val + r.val + 8 * 7 < 320; omega
  | ⟨1, _⟩ => right; show 0 + 1 * 127 < 128; omega

/-- Every eighth row of the scratch from row `64 v + r`: the eight sines of the edges in row `r` of tile `v`. -/
def harmonics (a7 : Memref sig .tc .vmem S320x128 .f32) (X0 : Vec F S40x128 .f32) (X2 : Vec F S1x16 .f32) (v : Fin 5) (r : Fin 8) :
    FVec F S8x128 .f32 :=
  a7.view.readCov (scratch X0 X2 v) ⟨![64 * v.val + r.val, 0], S8x128.size, ![8, 1], pick_inb v r⟩

/-- The same one row down, with a row of zeros on top. -/
def before (w : FVec F S8x128 .f32) : FVec F S8x128 .f32 :=
  select (cmpi .eq (iota .tc S8x128 32 [0] iota_S8x128_d0_w32) (broadcast S8x128 0#32)) zeros
    (dynamicRotate 0 1#32 none w rotates_S8x128_d0)

theorem line_slices (r : Fin 8) : S8x128.Slices ![r.val, 0] S1x128 := by revert r; decide

/-- Row `r` of a tile, on all eight rows. -/
def line (x : FVec F S8x128 .f32) (r : Fin 8) : FVec F S8x128 .f32 :=
  broadcastTo S8x128 (shapeCast S1x128 (extractStridedSlice S1x128 ![r.val, 0] x (line_slices r)) shapeCasts_S1x128_S1x128)
    broadcasts_S1x128_S8x128

theorem out_inb (h : Fin 2) (v : Fin 5) (r : Fin 8) :
    ∀ a, (![8 * h.val, 128 * (8 * v.val + r.val)] : Fin 2 → ℕ) a + S8x128.size a ≤ S16x5120.size a := by
  intro a
  match a with
  | ⟨0, _⟩ => show 8 * h.val + 8 ≤ 16; omega
  | ⟨1, _⟩ => show 128 * (8 * v.val + r.val) + 128 ≤ 5120; omega

/-- One store into the output block: harmonics `8 h` to `8 h + 7` of the 128 edges in row `r` of tile `v`. -/
def put (a7 : Memref sig .tc .vmem S320x128 .f32) (X0 : Vec F S40x128 .f32) (X1 : Vec F S40x128 .i32) (X2 : Vec F S1x16 .f32)
    (X3 X4 : Vec F S80x128 .f32) (v : Fin 5) (r : Fin 8) (h : Fin 2) : View.Piece (Elt F) S16x5120 .f32 :=
  ⟨Rect.unit ![8 * h.val, 128 * (8 * v.val + r.val)] S8x128.size (out_inb h v r),
    addf (mulf (line (factor X0 X1 X3 v) r)
      (chain (line (cosine2 X0 X2 v) r) (before (harmonics a7 X0 X2 v r)) (harmonics a7 X0 X2 v r) (8 * h.val)))
      (line (entry X4 X1 v) r)⟩

/-- All the stores into the output block, the newest first. -/
def puts (a7 : Memref sig .tc .vmem S320x128 .f32) (X0 : Vec F S40x128 .f32) (X1 : Vec F S40x128 .i32) (X2 : Vec F S1x16 .f32)
    (X3 X4 : Vec F S80x128 .f32) : List (View.Piece (Elt F) S16x5120 .f32) :=
  (List.finRange 5).reverse.flatMap fun v => (List.finRange 8).reverse.flatMap fun r =>
    [put a7 X0 X1 X2 X3 X4 v r 1, put a7 X0 X1 X2 X3 X4 v r 0]

end Cert.Radial

end
-- ==== Proof.Radial.Pieces.lean ====
/- The stores that the run of the body finds are the stores of the model. -/
module

public import proofs.«01_k».proof.Proof.Radial.Model

@[expose] public section

set_option maxRecDepth 65536

noncomputable section

namespace Cert.Radial

open Idealize.ShloMosaic Idealize.ShloMosaic.Tactic Cert.KernelIdeal Cert.KernelIdeal.Gen

variable {F : FTy → Type} [FloatOps F] [Named F]

/-- The stores into the output block that the run of the body finds are `puts`, of what the staged blocks read. -/
theorem run_eq (c : Dev nD) (i : grid0.Coords) (arg1 : Memref sig .tc .vmem S40x128 .f32) (harg1 : arg1.IsWhole)
    (arg2 : Memref sig .tc .vmem S40x128 .i32) (harg2 : arg2.IsWhole) (arg3 : Memref sig .tc .vmem S1x16 .f32) (harg3 : arg3.IsWhole)
    (arg4 : Memref sig .tc .vmem S80x128 .f32) (harg4 : arg4.IsWhole) (arg5 : Memref sig .tc .vmem S80x128 .f32) (harg5 : arg5.IsWhole)
    (arg6 : Memref sig .tc .vmem S16x5120 .f32) (harg6 : arg6.IsWhole) (arg7 : Memref sig .tc .vmem S320x128 .f32) (harg7 : arg7.IsWhole)
    (x0 : Vec F S40x128 .f32) (x1 : Vec F S40x128 .i32) (x2 : Vec F S1x16 .f32) (x3 : Vec F S80x128 .f32) (x4 : Vec F S80x128 .f32) :
    (kernelRun0_A c i arg1 harg1 arg2 harg2 arg3 harg3 arg4 harg4 arg5 harg5 arg6 harg6 arg7 harg7 x0 x1 x2 x3 x4).1
      = puts arg7 (arg1.view.read (Elt F) (harg1.unread x0)) (arg2.view.read (Elt F) (harg2.unread x1))
          (arg3.view.read (Elt F) (harg3.unread x2)) (arg4.view.read (Elt F) (harg4.unread x3))
          (arg5.view.read (Elt F) (harg5.unread x4)) := by
  sl_kernel_rfl

end Cert.Radial

end
-- ==== Proof.Radial.Math.lean ====
/- The mathematics of one output element on the extended reals: the recurrence of the sines, and the kernel's expression
   against the reference's. -/
module

public import Idealize.ShloMosaic.PureOps.Ideal
public import Idealize.ShloMosaic.Lib.Pointwise
public import Mathlib.Analysis.SpecialFunctions.Trigonometric.Basic

@[expose] public section

noncomputable section

namespace Cert.Radial

open Idealize.ShloMosaic

/-- The recurrence `next = c * q - p` on extended reals, run `n` times from `p`, `q`; the newest member. -/
def link (c : EReal) : EReal → EReal → ℕ → EReal
  | _, q, 0 => q
  | p, q, n + 1 => link c q (c * q - p) n

/-- The kernel's value of harmonic `k`, counted from 0, at the angle `θ`: up to the eighth by the recurrence from zero and the
    sine, from the ninth on by eight more steps from the two harmonics eight below. -/
def wave (θ : EReal) (k : ℕ) : EReal :=
  if k < 8 then link (2 * Ideal.cos θ) 0 (Ideal.sin θ) k
  else link (2 * Ideal.cos θ) (if k = 8 then 0 else link (2 * Ideal.cos θ) 0 (Ideal.sin θ) (k - 9))
    (link (2 * Ideal.cos θ) 0 (Ideal.sin θ) (k - 8)) 8

theorem sine_step (θ a : ℝ) : 2 * Real.cos θ * Real.sin a - Real.sin (a - θ) = Real.sin (a + θ) := by
  rw [Real.sin_sub, Real.sin_add]; ring

/-- From the sines of two angles `θ` apart, the recurrence goes on to the sines of the next ones. -/
theorem link_sine (θ : ℝ) (n : ℕ) : ∀ a : ℝ, link (2 * Ideal.cos (θ : EReal)) ((Real.sin (a - θ) : ℝ) : EReal) ((Real.sin a : ℝ) : EReal) n
    = ((Real.sin (a + n * θ) : ℝ) : EReal) := by
  induction n with
  | zero => intro a; simp [link]
  | succ n ih =>
    intro a
    have h2 : (2 : EReal) = ((2 : ℝ) : EReal) := rfl
    have hs : (2 * Ideal.cos (θ : EReal)) * ((Real.sin a : ℝ) : EReal) - ((Real.sin (a - θ) : ℝ) : EReal)
        = ((Real.sin (a + θ) : ℝ) : EReal) := by
      rw [Ideal.cos_coe, h2, ← EReal.coe_mul, ← EReal.coe_mul, ← EReal.coe_sub, sine_step]
    have ha : ((Real.sin a : ℝ) : EReal) = ((Real.sin (a + θ - θ) : ℝ) : EReal) := by rw [add_sub_cancel_right]
    rw [link, hs]
    conv_lhs => rw [ha]
    rw [ih (a + θ)]
    congr 2
    push_cast; ring

/-- From zero and the sine of `θ`, the recurrence gives the sines of the multiples. -/
theorem link_zero (θ : ℝ) (n : ℕ) : link (2 * Ideal.cos (θ : EReal)) 0 (Ideal.sin (θ : EReal)) n
    = ((Real.sin ((n + 1) * θ) : ℝ) : EReal) := by
  have h := link_sine θ n θ
  rw [sub_self, Real.sin_zero, EReal.coe_zero] at h
  rw [Ideal.sin_coe, h]
  congr 2; ring

/-- At a real angle the kernel's harmonic is the sine of the multiple. -/
theorem wave_coe (θ : ℝ) (k : ℕ) : wave (θ : EReal) k = ((Real.sin ((k + 1) * θ) : ℝ) : EReal) := by
  unfold wave
  split_ifs with h h'
  · exact link_zero θ k
  · subst h'
    rw [link_zero]
    have e := link_sine θ 8 θ
    rw [sub_self, Real.sin_zero, EReal.coe_zero] at e
    norm_num at e ⊢
    rw [e]; congr 2; ring
  · obtain ⟨j, rfl⟩ : ∃ j, k = j + 9 := ⟨k - 9, by omega⟩
    rw [link_zero, link_zero]
    have e := link_sine θ 8 ((j + 1 + 1) * θ)
    rw [show (j + 1 + 1 : ℝ) * θ - θ = (j + 1) * θ by ring] at e
    rw [show j + 9 - 9 = j by omega, show j + 9 - 8 = j + 1 by omega]
    push_cast at e ⊢
    rw [e]; congr 2; ring

/-- The root of two fifths is five times the root of `2 / 125`. -/
theorem root_scale : Real.sqrt (2 / 5) = Real.sqrt (2 / 125) * 5 := by
  rw [show (2 / 5 : ℝ) = 2 / 125 * 5 ^ 2 by norm_num, Real.sqrt_mul (by norm_num), Real.sqrt_sq (by norm_num)]

theorem sqrt_div : Ideal.sqrt (Ideal.div 2 125) = ((Real.sqrt (2 / 125) : ℝ) : EReal) := by
  have h : Ideal.div 2 125 = ((2 / 125 : ℝ) : EReal) := by
    rw [show (2 : EReal) = ((2 : ℝ) : EReal) from rfl, show (125 : EReal) = ((125 : ℝ) : EReal) from rfl,
      Ideal.div_coe (by norm_num), ← EReal.coe_mul]
    congr 1; norm_num
  rw [h, Ideal.sqrt_coe, if_neg (by norm_num)]

/-- One output element: the kernel's expression of the distance `d`, the first frequency `f`, the multiplier and the bias is
    the reference's, of the same and of the frequency `(k + 1) f`. -/
theorem element_eq (d μ β : EReal) (f : ℝ) (k : ℕ) :
    (Ideal.div ((Real.sqrt (2 / 5) : ℝ) : EReal) d * μ) * wave (d * ((f : EReal) * ((1 / 5 : ℝ) : EReal))) k + β
      = (Ideal.div (Ideal.sqrt (Ideal.div 2 125)) (Ideal.div d 5)
          * Ideal.sin ((((k : ℝ) : EReal) + 1) * (f : EReal) * Ideal.div d 5)) * μ + β := by
  have five : Ideal.div d 5 = d * ((1 / 5 : ℝ) : EReal) := by
    rw [show (5 : EReal) = ((5 : ℝ) : EReal) from rfl, Ideal.div_coe (by norm_num)]
  have hf : (((k : ℝ) : EReal) + 1) * (f : EReal) = (((k + 1) * f : ℝ) : EReal) := by
    rw [show (1 : EReal) = ((1 : ℝ) : EReal) from rfl, ← EReal.coe_add, ← EReal.coe_mul]
  congr 1
  rw [mul_right_comm]
  congr 1
  rw [sqrt_div, five, hf]
  induction d with
  | bot =>
    rw [EReal.bot_mul_coe_of_pos (by norm_num)]
    simp [Ideal.div]
  | top =>
    rw [EReal.top_mul_coe_of_pos (by norm_num)]
    simp [Ideal.div]
  | coe x =>
    rw [← EReal.coe_mul, ← EReal.coe_mul, ← EReal.coe_mul, ← EReal.coe_mul, wave_coe, Ideal.sin_coe]
    rw [show (k + 1) * (x * (f * (1 / 5))) = (k + 1) * f * (x * (1 / 5)) by ring]
    by_cases hx : x = 0
    · subst hx; simp
    · rw [Ideal.div_coe hx, Ideal.div_coe (by positivity), ← EReal.coe_mul, ← EReal.coe_mul, root_scale]
      congr 2
      field_simp

end Cert.Radial

end
-- ==== Proof.Radial.Tiles.lean ====
/- The expressions of one tile read at a place: distance, type, angle, the scratch's sines, and the recurrence. -/
module

public import proofs.«01_k».proof.Proof.Radial.Model
public import proofs.«01_k».proof.Proof.Radial.Math
public import Idealize.ShloMosaic.Lib.Pipeline.ValueKit

@[expose] public section

set_option maxRecDepth 16384

noncomputable section

namespace Cert.Radial

open Idealize.ShloMosaic Cert.KernelIdeal Cert.KernelIdeal.Gen

/-- The block's row that is row `r` of tile `v`. -/
def rowOf (v : Fin 5) (r : Fin 8) : Fin 40 := ⟨8 * v.val + r.val, by omega⟩

theorem two_lit : Ideal.ofBits .f32 0x40000000#32 = 2 := by
  simp [Ideal.ofBits, Ideal.ieee, -EReal.coe_mul]; norm_num; rfl

theorem dist_apply (X0 : Vec Ideal S40x128 .f32) (v : Fin 5) (r : Fin 8) (l : Fin 128) :
    dist (F := Ideal) X0 v (ix2 r l) = X0 (ix2 (rowOf v r) l) := by
  pointwise [dist, tile]
  rfl

theorem types_apply (X1 : Vec Ideal S40x128 .i32) (v : Fin 5) (r : Fin 8) (l : Fin 128) :
    types (F := Ideal) X1 v (ix2 r l) = X1 (ix2 (rowOf v r) l) := by
  pointwise [types, tile]
  rfl

/-- The angle that the kernel forms of a distance and of the first frequency. -/
def turn (X2 : Vec Ideal S1x16 .f32) (d : EReal) : EReal := d * (X2 (ix2 0 0) * ((1 / 5 : ℝ) : EReal))

theorem angle_apply (X0 : Vec Ideal S40x128 .f32) (X2 : Vec Ideal S1x16 .f32) (v : Fin 5) (r : Fin 8) (l : Fin 128) :
    angle (F := Ideal) X0 X2 v (ix2 r l) = turn X2 (X0 (ix2 (rowOf v r) l)) := by
  unfold angle freq
  pointwise [dist_apply]
  rfl

theorem sine_apply (X0 : Vec Ideal S40x128 .f32) (X2 : Vec Ideal S1x16 .f32) (v : Fin 5) (r : Fin 8) (l : Fin 128) :
    sine (F := Ideal) X0 X2 v (ix2 r l) = Ideal.sin (turn X2 (X0 (ix2 (rowOf v r) l))) :=
  congrArg Ideal.sin (angle_apply X0 X2 v r l)

theorem cosine2_apply (X0 : Vec Ideal S40x128 .f32) (X2 : Vec Ideal S1x16 .f32) (v : Fin 5) (r : Fin 8) (l : Fin 128) :
    cosine2 (F := Ideal) X0 X2 v (ix2 r l) = 2 * Ideal.cos (turn X2 (X0 (ix2 (rowOf v r) l))) :=
  congrArg₂ (· * ·) two_lit (congrArg Ideal.cos (angle_apply X0 X2 v r l))

theorem inverse_apply (X0 : Vec Ideal S40x128 .f32) (v : Fin 5) (r : Fin 8) (l : Fin 128) :
    inverse (F := Ideal) X0 v (ix2 r l) = Ideal.div ((Real.sqrt (2 / 5) : ℝ) : EReal) (X0 (ix2 (rowOf v r) l)) :=
  congrArg₂ Ideal.div rfl (dist_apply X0 v r l)

theorem zeros_apply (j : S8x128.Idx) : zeros (F := Ideal) j = 0 := Ideal.ofBits_zero_f32

/-- The tile-wide recurrence at a place is the recurrence of the elements there. -/
theorem chain_apply (c : FVec Ideal S8x128 .f32) (j : S8x128.Idx) (n : ℕ) :
    ∀ p q : FVec Ideal S8x128 .f32, chain c p q n j = link (c j) (p j) (q j) n := by
  induction n with
  | zero => intro p q; rfl
  | succ n ih => intro p q; exact ih q _

theorem line_apply (x : FVec Ideal S8x128 .f32) (r i : Fin 8) (l : Fin 128) : line x r (ix2 i l) = x (ix2 r l) := by
  unfold line
  pointwise

/-- The sine of the `n + 1`-fold angle as the scratch holds it. -/
def held (X0 : Vec Ideal S40x128 .f32) (X2 : Vec Ideal S1x16 .f32) (ρ : Fin 40) (l : Fin 128) (n : ℕ) : EReal :=
  link (2 * Ideal.cos (turn X2 (X0 (ix2 ρ l)))) 0 (Ideal.sin (turn X2 (X0 (ix2 ρ l)))) n

/-- What the scratch holds at each place, once written. -/
def scratchAt (X0 : Vec Ideal S40x128 .f32) (X2 : Vec Ideal S1x16 .f32) (y : S320x128.Idx) : EReal :=
  held X0 X2 ⟨8 * ((y 0).val / 64) + (y 0).val % 8, by have h : (y 0).val < 320 := (y 0).isLt; omega⟩ (y 1) ((y 0).val % 64 / 8)

theorem stored_at (X0 : Vec Ideal S40x128 .f32) (X2 : Vec Ideal S1x16 .f32) (v : Fin 5) (j : Fin 8) (x : S8x128.Idx) :
    (stored (F := Ideal) X0 X2 v j).2 x = scratchAt X0 X2 ((stored (F := Ideal) X0 X2 v j).1.emb x) := by
  obtain ⟨i, l, rfl⟩ : ∃ (i : Fin 8) (l : Fin 128), x = ix2 i l := ⟨x 0, x 1, eq_ix2 x⟩
  have h0 : ((((stored (F := Ideal) X0 X2 v j).1.emb (ix2 i l)) 0 : Fin _) : ℕ) = 64 * v.val + 8 * j.val + i.val := by
    show 64 * v.val + 8 * j.val + 1 * i.val = _; omega
  have h1 : ((stored (F := Ideal) X0 X2 v j).1.emb (ix2 i l)) 1 = l := by
    apply Fin.ext; show 0 + 1 * l.val = _; omega
  have hr : (⟨8 * ((((stored (F := Ideal) X0 X2 v j).1.emb (ix2 i l)) 0 : Fin _).val / 64)
      + (((stored (F := Ideal) X0 X2 v j).1.emb (ix2 i l)) 0 : Fin _).val % 8, by rw [h0]; omega⟩ : Fin 40) = rowOf v i := by
    apply Fin.ext; show 8 * (_ / 64) + _ % 8 = 8 * v.val + i.val; rw [h0]; omega
  have hj : (((stored (F := Ideal) X0 X2 v j).1.emb (ix2 i l)) 0 : Fin _).val % 64 / 8 = j.val := by rw [h0]; omega
  unfold scratchAt
  rw [hr, hj, h1]
  show shapeCast S8x128 (chain (cosine2 (F := Ideal) X0 X2 v) zeros (sine X0 X2 v) j.val) shapeCasts_S8x128_S8x128 (ix2 i l) = _
  rw [shapeCast_id, chain_apply, cosine2_apply, sine_apply, zeros_apply]
  rfl

theorem mem_scratch {X0 : Vec Ideal S40x128 .f32} {X2 : Vec Ideal S1x16 .f32} {v : Fin 5} {p : View.Piece (Elt Ideal) S320x128 .f32} :
    p ∈ scratch (F := Ideal) X0 X2 v ↔ ∃ u < v.val + 1, ∃ j : Fin 8, stored X0 X2 (Fin.ofNat 5 u) j = p := by
  simp [scratch]

/-- The strided load of row `r` of tile `v`: its eight rows are the first eight sines of the edges there. -/
theorem harmonics_apply (a7 : Memref sig .tc .vmem S320x128 .f32) (X0 : Vec Ideal S40x128 .f32) (X2 : Vec Ideal S1x16 .f32)
    (v : Fin 5) (r i : Fin 8) (l : Fin 128) :
    harmonics (F := Ideal) a7 X0 X2 v r (ix2 i l) = held X0 X2 (rowOf v r) l i.val := by
  unfold harmonics
  rw [View.readCov_eq_canon']
  beta_reduce
  have h0 : (((⟨![64 * v.val + r.val, 0], S8x128.size, ![8, 1], pick_inb v r⟩ : LoadRect S320x128).idx (ix2 i l)) 0 : Fin _).val
      = 64 * v.val + r.val + 8 * i.val := rfl
  have h1 : ((⟨![64 * v.val + r.val, 0], S8x128.size, ![8, 1], pick_inb v r⟩ : LoadRect S320x128).idx (ix2 i l)) 1 = l := by
    apply Fin.ext; show 0 + 1 * l.val = _; omega
  generalize ((⟨![64 * v.val + r.val, 0], S8x128.size, ![8, 1], pick_inb v r⟩ : LoadRect S320x128).idx (ix2 i l)) = y at h0 h1
  have hG : View.canon (scratch (F := Ideal) X0 X2 v) y = scratchAt X0 X2 y := by
    refine View.canon_apply_of_pieces (Val := Elt Ideal) (e := .f32) (scratchAt X0 X2) _ (fun p hp x => ?_) y ?_
    · obtain ⟨u, -, j, rfl⟩ := mem_scratch.mp hp
      exact stored_at X0 X2 _ j x
    · refine ⟨_, mem_scratch.mpr ⟨v.val, by omega, i, rfl⟩, ?_⟩
      have hv : Fin.ofNat 5 v.val = v := by apply Fin.ext; show v.val % 5 = v.val; omega
      rw [hv]
      have hm := (stored (F := Ideal) X0 X2 v i).1.idx_mem (ix2 r l)
      convert hm using 1
      funext a
      match a with
      | ⟨0, _⟩ => apply Fin.ext; rw [show (y ⟨0, by decide⟩).val = _ from h0]; show _ = 64 * v.val + 8 * i.val + 1 * r.val; omega
      | ⟨1, _⟩ =>
        apply Fin.ext
        have h1' : (y 1).val = l.val := congrArg Fin.val h1
        show (y 1).val = 0 + 1 * l.val; omega
  rw [hG]
  unfold scratchAt
  have hr : (⟨8 * ((y 0).val / 64) + (y 0).val % 8, by rw [h0]; omega⟩ : Fin 40) = rowOf v r := by
    apply Fin.ext; show 8 * (_ / 64) + _ % 8 = 8 * v.val + r.val; rw [h0]; omega
  have hj : (y 0).val % 64 / 8 = i.val := by rw [h0]; omega
  rw [hr, hj, h1]

/-- A tile with its rows one down and zeros on top. -/
theorem before_apply (w : FVec Ideal S8x128 .f32) (i : Fin 8) (l : Fin 128) :
    before w (ix2 i l) = if i.val = 0 then 0 else w (ix2 ⟨i.val - 1, by omega⟩ l) := by
  unfold before
  pointwise [zeros]
  fin_cases i <;> rfl

end Cert.Radial

end
-- ==== Proof.Radial.Lookup.lean ====
/- The table lookup: the tree of selects over the eighty rows of a table, read at a place, is the table's entry that the type
   there names. -/
module

public import proofs.«01_k».proof.Proof.Radial.Tiles

@[expose] public section

set_option maxRecDepth 16384

noncomputable section

namespace Cert.Radial

open Idealize.ShloMosaic Cert.KernelIdeal Cert.KernelIdeal.Gen

/-- Entry `n` of a table laid out in rows of 128. -/
def cell (T : Vec Ideal S80x128 .f32) (n : ℕ) : EReal :=
  T (ix2 ⟨n / 128 % 80, Nat.mod_lt _ (by decide)⟩ ⟨n % 128, Nat.mod_lt _ (by decide)⟩)

/-- A lane number below 128 stays as it is. -/
theorem wrapLane_toNat (ln : IVec S8x128 32) (j : S8x128.Idx) (h : (ln j).toNat < 128) : (wrapLane ln j).toNat = (ln j).toNat := by
  obtain ⟨r, l, rfl⟩ : ∃ (r : Fin 8) (l : Fin 128), j = ix2 r l := ⟨j 0, j 1, eq_ix2 j⟩
  pointwise [wrapLane]
  generalize ln (ix2 r l) = w at h ⊢
  have hc : IntOp.cmpi .slt w 0#32 = 0#1 := by
    have : w.slt 0#32 = false := by
      rw [BitVec.slt_eq_decide, decide_eq_false_iff_not]
      rw [BitVec.toInt_eq_toNat_of_lt (by omega)]
      simp
    show BitVec.ofBool (w.slt 0#32) = _
    rw [this]; rfl
  rw [hc]
  rfl

/-- Row `k` of a table at a lane number below 128. -/
theorem leaf_apply (T : Vec Ideal S80x128 .f32) (ln : IVec S8x128 32) (k : ℕ) (hk : k < 80) (j : S8x128.Idx) (h : (ln j).toNat < 128) :
    leaf (F := Ideal) T ln k j = T (ix2 ⟨k, hk⟩ ⟨(ln j).toNat, h⟩) := by
  have hw := wrapLane_toNat ln j h
  obtain ⟨r, l, rfl⟩ : ∃ (r : Fin 8) (l : Fin 128), j = ix2 r l := ⟨j 0, j 1, eq_ix2 j⟩
  unfold leaf
  pointwise
  congr 1
  apply congrArg₂ ix2
  · apply Fin.ext
    exact Nat.mod_eq_of_lt hk
  · apply Fin.ext
    simp [hw, Nat.mod_eq_of_lt h]

/-- The tree over rows `lo` to `hi - 1` picks row `ρ` when the row number is `ρ` and `ρ` is in the range. -/
theorem look_apply (T : Vec Ideal S80x128 .f32) (rw' ln : IVec S8x128 32) (j : S8x128.Idx) (h : (ln j).toNat < 128) (n : ℕ) :
    ∀ lo hi : ℕ, lo ≤ (rw' j).toNat → (hr : (rw' j).toNat < hi) → (hh : hi ≤ 80) → hi - lo ≤ 2 ^ n →
      look (F := Ideal) T rw' ln n lo hi j = T (ix2 ⟨(rw' j).toNat, Nat.lt_of_lt_of_le hr hh⟩ ⟨(ln j).toNat, h⟩) := by
  induction n with
  | zero =>
    intro lo hi h1 h2 h3 h4
    have e : lo = (rw' j).toNat := by rw [pow_zero] at h4; omega
    subst e
    exact leaf_apply T ln _ _ j h
  | succ n ih =>
    intro lo hi h1 h2 h3 h4
    rw [look]
    by_cases hb : hi - lo = 1
    · have e : lo = (rw' j).toNat := by omega
      rw [hb]
      subst e
      exact leaf_apply T ln _ _ j h
    · have hbeq : (hi - lo).beq 1 = false := by
        cases hx : (hi - lo).beq 1 with
        | false => rfl
        | true => exact absurd (Nat.eq_of_beq_eq_true hx) hb
      rw [hbeq, cond_false]
      show Scalar.select (IntOp.cmpi .sge (rw' j) (BitVec.ofNat 32 ((lo + hi) / 2))) (look (F := Ideal) T rw' ln n ((lo + hi) / 2) hi j)
        (look (F := Ideal) T rw' ln n lo ((lo + hi) / 2) j) = _
      have hm : (BitVec.ofNat 32 ((lo + hi) / 2)).toInt = (((lo + hi) / 2 : ℕ) : ℤ) := by
        rw [BitVec.toInt_eq_toNat_of_lt (by rw [BitVec.toNat_ofNat]; omega), BitVec.toNat_ofNat, Nat.mod_eq_of_lt (by omega)]
      have hi' : (rw' j).toInt = ((rw' j).toNat : ℤ) := BitVec.toInt_eq_toNat_of_lt (by omega)
      have hc : IntOp.cmpi .sge (rw' j) (BitVec.ofNat 32 ((lo + hi) / 2)) = BitVec.ofBool (decide ((lo + hi) / 2 ≤ (rw' j).toNat)) := by
        show BitVec.ofBool ((BitVec.ofNat 32 ((lo + hi) / 2)).sle (rw' j)) = _
        rw [BitVec.sle_eq_decide, hm, hi']
        simp only [Nat.cast_le]
      have hp : 2 ^ (n + 1) = 2 * 2 ^ n := by ring
      rw [hc]
      by_cases hd : (lo + hi) / 2 ≤ (rw' j).toNat
      · rw [decide_eq_true hd]
        exact ih _ _ hd h2 h3 (by omega)
      · rw [decide_eq_false hd]
        exact ih _ _ h1 (by omega) (by omega) (by omega)

/-- The table's entry at the type of an edge, when the type is in the table's range. -/
theorem entry_apply (T : Vec Ideal S80x128 .f32) (X1 : Vec Ideal S40x128 .i32) (v : Fin 5) (r : Fin 8) (l : Fin 128)
    (ht : (X1 (ix2 (rowOf v r) l) : BitVec 32).toNat < 10240) :
    entry (F := Ideal) T X1 v (ix2 r l) = cell T (X1 (ix2 (rowOf v r) l) : BitVec 32).toNat := by
  have hrow : (tableRow (F := Ideal) X1 v (ix2 r l)).toNat = (X1 (ix2 (rowOf v r) l) : BitVec 32).toNat / 128 := by
    show (IntOp.shrsi .vector (types (F := Ideal) X1 v (ix2 r l)) 7#32).toNat = _
    rw [types_apply]
    generalize (X1 (ix2 (rowOf v r) l) : BitVec 32) = w at ht ⊢
    show (w.sshiftRight 7).toNat = _
    rw [BitVec.sshiftRight_eq_of_msb_false (by rw [BitVec.msb_eq_false_iff_two_mul_lt]; omega), BitVec.toNat_ushiftRight,
      Nat.shiftRight_eq_div_pow]
  have hlane : (tableLane (F := Ideal) X1 v (ix2 r l)).toNat = (X1 (ix2 (rowOf v r) l) : BitVec 32).toNat % 128 := by
    show (types (F := Ideal) X1 v (ix2 r l) &&& 127#32).toNat = _
    rw [types_apply]
    generalize (X1 (ix2 (rowOf v r) l) : BitVec 32) = w
    rw [BitVec.toNat_and]
    exact Nat.and_two_pow_sub_one_eq_mod w.toNat 7
  unfold entry
  rw [look_apply T _ _ (ix2 r l) (by rw [hlane]; omega) 7 0 80 (by omega) (by rw [hrow]; omega) le_rfl (by decide)]
  unfold cell
  congr 1
  apply congrArg₂ ix2
  · apply Fin.ext
    exact hrow.trans (Nat.mod_eq_of_lt (by omega)).symm
  · apply Fin.ext
    exact hlane

end Cert.Radial

end
-- ==== Proof.Radial.Block.lean ====
/- What one grid point leaves in its output block, as a function of its input blocks: at harmonic `k` and edge `e`, the edge's
   factor times the harmonic of its angle, plus its bias. -/
module

public import proofs.«01_k».proof.Proof.Radial.Pieces
public import proofs.«01_k».proof.Proof.Radial.Lookup

@[expose] public section

set_option maxRecDepth 16384

noncomputable section

namespace Cert.Radial

open Idealize.ShloMosaic Cert.KernelIdeal Cert.KernelIdeal.Gen

/-- One element of the output of the kernel: from the distance `d`, the type `w`, the first frequency in `X2` and the tables
    `T`, `U`, harmonic `k`. -/
def element (d : EReal) (w : BitVec 32) (X2 : Vec Ideal S1x16 .f32) (T U : Vec Ideal S80x128 .f32) (k : ℕ) : EReal :=
  (Ideal.div ((Real.sqrt (2 / 5) : ℝ) : EReal) d * cell T w.toNat) * wave (turn X2 d) k + cell U w.toNat

theorem edge_lt (y : S16x5120.Idx) : (y 1).val / 128 < 40 := by
  have h : (y 1).val < 5120 := (y 1).isLt
  omega

/-- The place of an output block's edge in the input blocks. -/
def place (y : S16x5120.Idx) : S40x128.Idx := ix2 ⟨(y 1).val / 128, edge_lt y⟩ ⟨(y 1).val % 128, Nat.mod_lt _ (by decide)⟩

/-- The output block of the input blocks `X0` (distances), `X1` (types), `X2` (frequencies), `X3` and `X4` (tables). -/
def block (X0 : Vec Ideal S40x128 .f32) (X1 : Vec Ideal S40x128 .i32) (X2 : Vec Ideal S1x16 .f32) (X3 X4 : Vec Ideal S80x128 .f32)
    (y : S16x5120.Idx) : EReal :=
  element (X0 (place y)) (X1 (place y)) X2 X3 X4 (y 0).val

/-- The sixteen harmonics of the edges in one row of a tile, as the two stores compute them. -/
theorem chain_wave (a7 : Memref sig .tc .vmem S320x128 .f32) (X0 : Vec Ideal S40x128 .f32) (X2 : Vec Ideal S1x16 .f32)
    (v : Fin 5) (r : Fin 8) (h : Fin 2) (i : Fin 8) (l : Fin 128) :
    chain (line (cosine2 (F := Ideal) X0 X2 v) r) (before (harmonics a7 X0 X2 v r)) (harmonics a7 X0 X2 v r) (8 * h.val) (ix2 i l)
      = wave (turn X2 (X0 (ix2 (rowOf v r) l))) (8 * h.val + i.val) := by
  have hb : before (harmonics (F := Ideal) a7 X0 X2 v r) (ix2 i l)
      = if i.val = 0 then 0 else held X0 X2 (rowOf v r) l (i.val - 1) := by
    rw [before_apply]
    split
    · rfl
    · rw [harmonics_apply]
  rw [chain_apply, line_apply, cosine2_apply, hb, harmonics_apply a7 X0 X2 v r i l]
  unfold wave held
  have hh : h.val = 0 ∨ h.val = 1 := by omega
  rcases hh with hh | hh
  · rw [hh, Nat.mul_zero, Nat.zero_add, if_pos i.isLt]
    rfl
  · rw [hh, if_neg (show ¬ (8 * 1 + i.val < 8) by omega), show 8 * 1 + i.val - 8 = i.val by omega,
      show 8 * 1 + i.val - 9 = i.val - 1 by omega]
    by_cases hi : i.val = 0
    · rw [if_pos hi, if_pos (show 8 * 1 + i.val = 8 by omega)]
    · rw [if_neg hi, if_neg (show ¬ (8 * 1 + i.val = 8) by omega)]

/-- One store of the block, at each of its places, is the block's value there. -/
theorem put_at (a7 : Memref sig .tc .vmem S320x128 .f32) (X0 : Vec Ideal S40x128 .f32) (X1 : Vec Ideal S40x128 .i32)
    (X2 : Vec Ideal S1x16 .f32) (X3 X4 : Vec Ideal S80x128 .f32) (ht : ∀ z, (X1 z : BitVec 32).toNat < 10240)
    (v : Fin 5) (r : Fin 8) (h : Fin 2) (x : S8x128.Idx) :
    (put (F := Ideal) a7 X0 X1 X2 X3 X4 v r h).2 x = block X0 X1 X2 X3 X4 ((put (F := Ideal) a7 X0 X1 X2 X3 X4 v r h).1.emb x) := by
  obtain ⟨i, l, rfl⟩ : ∃ (i : Fin 8) (l : Fin 128), x = ix2 i l := ⟨x 0, x 1, eq_ix2 x⟩
  have h0 : ((((put (F := Ideal) a7 X0 X1 X2 X3 X4 v r h).1.emb (ix2 i l)) 0 : Fin _) : ℕ) = 8 * h.val + i.val := by
    show 8 * h.val + 1 * i.val = _; omega
  have h1 : ((((put (F := Ideal) a7 X0 X1 X2 X3 X4 v r h).1.emb (ix2 i l)) 1 : Fin _) : ℕ) = 128 * (8 * v.val + r.val) + l.val := by
    show 128 * (8 * v.val + r.val) + 1 * l.val = _; omega
  generalize hy : (put (F := Ideal) a7 X0 X1 X2 X3 X4 v r h).1.emb (ix2 i l) = y at h0 h1
  have hp : place y = ix2 (rowOf v r) l := by
    unfold place
    apply congrArg₂ ix2
    · apply Fin.ext; show (y 1).val / 128 = 8 * v.val + r.val; rw [h1]; omega
    · apply Fin.ext; show (y 1).val % 128 = l.val; rw [h1]; omega
  unfold block
  rw [hp, h0]
  show (line (factor (F := Ideal) X0 X1 X3 v) r (ix2 i l) * chain (line (cosine2 (F := Ideal) X0 X2 v) r) (before (harmonics a7 X0 X2 v r))
    (harmonics a7 X0 X2 v r) (8 * h.val) (ix2 i l)) + line (entry (F := Ideal) X4 X1 v) r (ix2 i l) = _
  rw [chain_wave, line_apply, line_apply, entry_apply X4 X1 v r l (ht _)]
  show (inverse (F := Ideal) X0 v (ix2 r l) * entry (F := Ideal) X3 X1 v (ix2 r l)) * _ + _ = _
  rw [entry_apply X3 X1 v r l (ht _), inverse_apply]
  rfl

theorem mem_puts {a7 : Memref sig .tc .vmem S320x128 .f32} {X0 : Vec Ideal S40x128 .f32} {X1 : Vec Ideal S40x128 .i32}
    {X2 : Vec Ideal S1x16 .f32} {X3 X4 : Vec Ideal S80x128 .f32} {p : View.Piece (Elt Ideal) S16x5120 .f32} :
    p ∈ puts (F := Ideal) a7 X0 X1 X2 X3 X4 ↔ ∃ v r, ∃ h : Fin 2, put a7 X0 X1 X2 X3 X4 v r h = p := by
  constructor
  · intro hp
    simp only [puts, List.mem_flatMap, List.mem_reverse, List.mem_finRange, true_and, List.mem_cons, List.not_mem_nil, or_false] at hp
    obtain ⟨v, r, rfl | rfl⟩ := hp
    · exact ⟨v, r, 1, rfl⟩
    · exact ⟨v, r, 0, rfl⟩
  · rintro ⟨v, r, h, rfl⟩
    simp only [puts, List.mem_flatMap, List.mem_reverse, List.mem_finRange, true_and, List.mem_cons, List.not_mem_nil, or_false]
    refine ⟨v, r, ?_⟩
    match h with
    | ⟨0, _⟩ => exact Or.inr rfl
    | ⟨1, _⟩ => exact Or.inl rfl

/-- All the stores together leave the block's value at every place. -/
theorem canon_puts (a7 : Memref sig .tc .vmem S320x128 .f32) (X0 : Vec Ideal S40x128 .f32) (X1 : Vec Ideal S40x128 .i32)
    (X2 : Vec Ideal S1x16 .f32) (X3 X4 : Vec Ideal S80x128 .f32) (ht : ∀ z, (X1 z : BitVec 32).toNat < 10240) (y : S16x5120.Idx) :
    View.canon (puts (F := Ideal) a7 X0 X1 X2 X3 X4) y = block X0 X1 X2 X3 X4 y := by
  refine View.canon_apply_of_pieces (Val := Elt Ideal) (e := .f32) (block X0 X1 X2 X3 X4) _ (fun p hp x => ?_) y ?_
  · obtain ⟨v, r, h, rfl⟩ := mem_puts.mp hp
    exact put_at a7 X0 X1 X2 X3 X4 ht v r h x
  · have hk : (y 0).val < 16 := (y 0).isLt
    have he : (y 1).val < 5120 := (y 1).isLt
    refine ⟨_, mem_puts.mpr ⟨⟨(y 1).val / 1024, by omega⟩, ⟨(y 1).val / 128 % 8, by omega⟩, ⟨(y 0).val / 8, by omega⟩, rfl⟩, ?_⟩
    have hm := (put (F := Ideal) a7 X0 X1 X2 X3 X4 ⟨(y 1).val / 1024, by omega⟩ ⟨(y 1).val / 128 % 8, by omega⟩ ⟨(y 0).val / 8, by omega⟩).1.idx_mem
      (ix2 ⟨(y 0).val % 8, by omega⟩ ⟨(y 1).val % 128, by omega⟩ : S8x128.Idx)
    convert hm using 1
    funext a
    match a with
    | ⟨0, _⟩ => apply Fin.ext; show (y 0).val = 8 * ((y 0).val / 8) + 1 * ((y 0).val % 8); omega
    | ⟨1, _⟩ =>
      apply Fin.ext
      show (y 1).val = 128 * (8 * ((y 1).val / 1024) + (y 1).val / 128 % 8) + 1 * ((y 1).val % 128); omega

variable (m : (ℓ : Loc nD τ sig) → Buf (Elt Ideal) ℓ)

/-- The output block after point `t`. -/
theorem outsAt_eq (c : Dev nD) (t : Fin cfg0.N) (ht : ∀ z, (iblk m c 1 t z : BitVec 32).toNat < 10240) (y : S16x5120.Idx) :
    outsAt0 m c t y = block (iblk m c 0 t) (iblk m c 1 t) (iblk m c 2 t) (iblk m c 3 t) (iblk m c 4 t) y := by
  unfold outsAt0 out0_A_5
  rw [View.read_writes_junk_apply_eq_canon, run_eq]
  simp only [Memref.IsWhole.read_unread]
  exact canon_puts _ _ _ _ _ _ ht y

end Cert.Radial

end
-- ==== Proof.Radial.Array.lean ====
/- The kernel's result array: from the blocks of the grid points to one formula in the arguments, through the host's reshapes
   before the launch and its transpose after it. -/
module

public import proofs.«01_k».proof.Proof.Radial.Block
public import Idealize.ShloMosaic.Lib.Claim

@[expose] public section

set_option maxRecDepth 16384

noncomputable section

namespace Cert.Radial

open Idealize.ShloMosaic Idealize.ShloMosaic.TcCoe Idealize.SL.Sem Cert.KernelIdeal Cert.KernelIdeal.Gen

/-! ## The host's arrays at the launch -/

/-- A table as the host hands it to the kernel: 240 zeros behind its 10000 entries, cut into 80 rows of 128. -/
def padded (T : S10000x1.Idx → EReal) : S80x128.Idx → EReal :=
  shapeCast S80x128 (concatenate S10240 0 [⟨S10000, shapeCast S10000 T shapeCasts_S10000x1_S10000⟩,
    ⟨S240, broadcastInDim S240 ![] bcast_S_S240 (constant (F := Ideal) S_ FTy.f32 0#32)⟩] concatenates_S10000_S240_S10240_d0)
    shapeCasts_S10240_S80x128

theorem padded_apply (T : S10000x1.Idx → EReal) (ρ : Fin 80) (l : Fin 128) (h : ρ.val * 128 + l.val < 10000) :
    padded T (ix2 ρ l) = T (ix2 ⟨ρ.val * 128 + l.val, h⟩ 0) := by
  unfold padded
  pointwise
  rw [dif_pos h]

/-- The entry of a table that a type selects. -/
def pick (T : S10000x1.Idx → EReal) (w : BitVec 32) : EReal := T (ix2 ⟨w.toNat % 10000, Nat.mod_lt _ (by decide)⟩ 0)

/-- A type in range finds its table entry in the padded table. -/
theorem cell_padded (T : S10000x1.Idx → EReal) (w : BitVec 32) (h : w.toNat < 10000) : cell (padded T) w.toNat = pick T w := by
  have hρ : w.toNat / 128 % 80 * 128 + w.toNat % 128 = w.toNat := by omega
  have hw : w.toNat % 10000 = w.toNat := Nat.mod_eq_of_lt h
  refine (padded_apply T ⟨w.toNat / 128 % 80, Nat.mod_lt _ (by decide)⟩ ⟨w.toNat % 128, Nat.mod_lt _ (by decide)⟩ (hρ.trans_lt h)).trans ?_
  exact congrArg (fun a : Fin 10000 => T (ix2 a 0)) (Fin.ext (hρ.trans hw.symm))

variable (m : (ℓ : Loc nD τ sig) → Buf (Elt Ideal) ℓ) (c : Dev nD)

/-- The arguments on a device: distances, types, frequencies and the two tables. -/
abbrev argDist : S3200000.Idx → EReal := m ((c.tc : Thread nD τ).loc main_arg0)
abbrev argType : S3200000.Idx → BitVec 32 := m ((c.tc : Thread nD τ).loc main_arg1)
abbrev argFreq : S16.Idx → EReal := m ((c.tc : Thread nD τ).loc main_arg2)
abbrev argMul : S10000x1.Idx → EReal := m ((c.tc : Thread nD τ).loc main_arg3)
abbrev argBias : S10000x1.Idx → EReal := m ((c.tc : Thread nD τ).loc main_arg4)

/-- The distances are launched in rows of 128. -/
theorem launched_dist : V m c main_v0 = shapeCast S25000x128 (argDist m c) shapeCasts_S3200000_S25000x128 := by
  unfold_abbrev_sides
  simp only [hostOps0, List.flatten_cons, List.flatten_nil, List.append_nil, List.cons_append, List.nil_append]
  after_results
  rfl

/-- So are the types. -/
theorem launched_type : V m c main_v1 = shapeCast S25000x128 (argType m c) shapeCasts_S3200000_S25000x128 := by
  unfold_abbrev_sides
  simp only [hostOps0, List.flatten_cons, List.flatten_nil, List.append_nil, List.cons_append, List.nil_append]
  after_results
  rfl

/-- The frequencies are launched as one row. -/
theorem launched_freq : V m c main_v2 = shapeCast S1x16 (argFreq m c) shapeCasts_S16_S1x16 := by
  unfold_abbrev_sides
  simp only [hostOps0, List.flatten_cons, List.flatten_nil, List.append_nil, List.cons_append, List.nil_append]
  after_results
  rfl

/-- The two tables are launched padded. -/
theorem launched_mul : V m c main_v6 = padded (argMul m c) := by
  unfold_abbrev_sides
  simp only [hostOps0, List.flatten_cons, List.flatten_nil, List.append_nil, List.cons_append, List.nil_append]
  after_results
  rfl

theorem launched_bias : V m c main_v9 = padded (argBias m c) := by
  unfold_abbrev_sides
  simp only [hostOps0, List.flatten_cons, List.flatten_nil, List.append_nil, List.cons_append, List.nil_append]
  after_results
  rfl

/-! ## The blocks of a grid point -/

/-- The windows' blocks at grid point `t`: 40 rows of edges, the whole of the frequencies and of the tables, 5120 columns of the
    result. -/
theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, t.val] := (by decide +kernel : ∀ t : Fin grid0.N, win0_5.index t = ![0, t.val])

/-- The edge that stands at row `a`, lane `b` of grid point `t`. -/
def edge (t : Fin cfg0.N) (a : Fin 40) (b : Fin 128) : S3200000.Idx :=
  ix1 ⟨(40 * t.val + a.val) * 128 + b.val, by have : t.val < 625 := t.isLt; omega⟩

/-- A shape's edges in rows of 128, read at a row and a lane. -/
theorem rows_apply {α : Type} (X : S3200000.Idx → α) (ρ : Fin 25000) (l : Fin 128) :
    shapeCast S25000x128 X shapeCasts_S3200000_S25000x128 (ix2 ρ l) = X (ix1 ⟨ρ.val * 128 + l.val, by omega⟩) := by
  pointwise

theorem dist_block (t : Fin cfg0.N) (a : Fin 40) (b : Fin 128) : iblk m c 0 t (ix2 a b) = argDist m c (edge t a b) := by
  have h : iblk m c 0 t (ix2 a b)
      = V m c main_v0 (ix2 ⟨40 * t.val + a.val, by have : t.val < 625 := t.isLt; omega⟩ b) := by
    blk_ext [iblk, idx0 t]
  rw [h, launched_dist, rows_apply]
  rfl

theorem type_block (t : Fin cfg0.N) (a : Fin 40) (b : Fin 128) : iblk m c 1 t (ix2 a b) = argType m c (edge t a b) := by
  have h : iblk m c 1 t (ix2 a b)
      = V m c main_v1 (ix2 ⟨40 * t.val + a.val, by have : t.val < 625 := t.isLt; omega⟩ b) := by
    blk_ext [iblk, idx1 t]
  rw [h, launched_type, rows_apply]
  rfl

theorem freq_block (t : Fin cfg0.N) : iblk m c 2 t (ix2 0 0) = argFreq m c (ix1 0) := by
  have h : iblk m c 2 t (ix2 0 0) = V m c main_v2 (ix2 0 0) := by
    blk_ext [iblk, idx2 t]
  rw [h, launched_freq]
  pointwise

theorem mul_block (t : Fin cfg0.N) : iblk m c 3 t = padded (argMul m c) := by
  rw [← launched_mul]
  funext z
  obtain ⟨a, b, rfl⟩ : ∃ (a : Fin 80) (b : Fin 128), z = ix2 a b := ⟨z 0, z 1, eq_ix2 z⟩
  blk_ext [iblk, idx3 t]

theorem bias_block (t : Fin cfg0.N) : iblk m c 4 t = padded (argBias m c) := by
  rw [← launched_bias]
  funext z
  obtain ⟨a, b, rfl⟩ : ∃ (a : Fin 80) (b : Fin 128), z = ix2 a b := ⟨z 0, z 1, eq_ix2 z⟩
  blk_ext [iblk, idx4 t]

/-! ## The array after the run -/

/-- Harmonic `k` of edge `e`, as the kernel computes it from the arguments. -/
def value (e : S3200000.Idx) (k : ℕ) : EReal :=
  (Ideal.div ((Real.sqrt (2 / 5) : ℝ) : EReal) (argDist m c e) * pick (argMul m c) (argType m c e))
    * wave (argDist m c e * (argFreq m c (ix1 0) * ((1 / 5 : ℝ) : EReal))) k + pick (argBias m c) (argType m c e)

/-- The blocks of the result cover it. -/
theorem covers : (cfg0.win 5).Covers := by decide +kernel

/-- Types in range: after the run the kernel's array holds `value` at every harmonic of every edge. -/
theorem array_eq (ht : ∀ e, (argType m c e).toNat < 10000) :
    (dats m 0 c).arrAt 5 cfg0.N = fun i : S16x3200000.Idx => value m c (ix1 (i 1)) (i 0).val := by
  refine (dats m 0 c).arrAt_eq_of_covers 5 _ covers fun t hf y => ?_
  blk_simp
  rw [after0_5]
  have hty : ∀ z, (iblk m c 1 t z : BitVec 32).toNat < 10240 := fun z => by
    obtain ⟨a, b, rfl⟩ : ∃ (a : Fin 40) (b : Fin 128), z = ix2 a b := ⟨z 0, z 1, eq_ix2 z⟩
    rw [type_block]
    exact (ht _).trans (by decide)
  refine (outsAt_eq m c t hty y).trans ?_
  have he : edge t ⟨(y 1).val / 128, edge_lt y⟩ ⟨(y 1).val % 128, Nat.mod_lt _ (by decide)⟩
      = ix1 (((win0_5.blk t).view.emb y) 1) := by
    refine congrArg ix1 (Fin.ext ?_)
    blk_simp
    rw [show win0_5.index t 1 = t.val from congrFun (idx5 t) 1]
    show (40 * t.val + (y 1).val / 128) * 128 + (y 1).val % 128 = t.val * 5120 + (y 1).val
    omega
  have hk : (y 0).val = win0_5.index t 0 * 16 + (y 0).val := by
    rw [show win0_5.index t 0 = 0 from congrFun (idx5 t) 0]
    omega
  unfold block element turn place
  rw [dist_block, type_block, freq_block, mul_block, bias_block, cell_padded _ _ (ht _), cell_padded _ _ (ht _), he]
  exact congrArg (value m c _) hk

/-- The tail transposes the array. -/
theorem tail_eq : Pipeline.afterTail₀ cfgs (dats m) 0 (V0 m) [hostOps1] c main_v11
    = transpose S3200000x16 [1, 0] ((dats m 0 c).arrAt 5 cfg0.N) transposes_S16x3200000_S3200000x16_1_0 := by
  unfold Pipeline.afterTail₀
  simp only [hostOps1, List.flatten_cons, List.flatten_nil, List.append_nil, List.cons_append, List.nil_append]
  after_results
  exact congrArg (transpose S3200000x16 [1, 0] · transposes_S16x3200000_S3200000x16_1_0)
    (Pipeline.withArrays_arr (cfgs 0).spec (by decide) c (V0 m c) (fun w => (dats m 0 c).arrAt w (cfgs 0).N) 5)

/-- The kernel's run: types in range, it ends with `value` in its result, edge by harmonic, and the arguments as they were. -/
theorem kernel_values (ht : ∀ c e, (argType m c e).toNat < 10000) (g : Dev nD → PrngReg) :
    θ_run (defs (F := Ideal)) (onTc (τ := τ) (main (F := Ideal))) ⟨m, fun _ => 0, g⟩ fun r => ∀ c : Dev nD,
      r.2.mem ((c.tc : Thread nD τ).loc main_v11) = (fun i : S3200000x16.Idx => value m c (ix1 (i 0)) (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  run_from run_main m g
  · rw [tail_eq, array_eq m c (ht c)]
    funext i
    obtain ⟨e, k, rfl⟩ : ∃ (e : Fin 3200000) (k : Fin 16), i = ix2 e k := ⟨i 0, i 1, eq_ix2 i⟩
    pointwise
  · exact W_main_arg0 m (dats m) c
  · exact W_main_arg1 m (dats m) c
  · exact W_main_arg2 m (dats m) c
  · exact W_main_arg3 m (dats m) c
  · exact W_main_arg4 m (dats m) c

end Cert.Radial

end
-- ==== Proof.Radial.Reference.lean ====
/- The reference's result, read at an edge and a harmonic. -/
module

public import proofs.«01_k».proof.Proof.Gen.ReferenceIdeal.Run
public import Idealize.ShloMosaic.Lib.Pointwise
public import Idealize.ShloMosaic.Lib.ReduceAll
public import Idealize.ShloMosaic.Lib.Routing.Ops
public import Idealize.ShloMosaic.Lib.Tactic.WordOmega

@[expose] public section

set_option maxRecDepth 16384

noncomputable section

namespace Cert.Radial.Reference

open Idealize.ShloMosaic Idealize.ShloMosaic.TcCoe Idealize.SL.Sem
open Cert.ReferenceIdeal Cert.ReferenceIdeal.Gen

/-! ## The table look-up -/

/-- The row of the table that each edge asks for: its type, a negative one counted from the table's end. -/
def rows (I : IVec S3200000 32) : IVec S3200000x1 32 :=
  broadcastInDim S3200000x1 ![0] bcast_S3200000_S3200000x1_0
    (select (cmpi .slt I (broadcastInDim S3200000 ![] bcast_S_S3200000 (constantI S_ 32 0#32)))
      (addi I (broadcastInDim S3200000 ![] bcast_S_S3200000 (constantI S_ 32 10000#32))) I)

/-- Whether that row lies in the table. -/
def inside (I : IVec S3200000 32) : IVec S3200000x1 1 :=
  andi (cmpi .sge (rows I) (broadcastInDim S3200000x1 ![] bcast_S_S3200000x1 (constantI S_ 32 0#32)))
    (cmpi .sle (rows I) (broadcastInDim S3200000x1 ![0, 1] bcast_S1x1_S3200000x1_0_1
      (broadcastInDim S1x1 ![1] bcast_S1_S1x1_1 (constantI S1 32 9999#32))))

/-- The entries that the edges take from the table `T`. -/
def taken (T : FVec Ideal S10000x1 .f32) (I : IVec S3200000 32) : FVec Ideal S3200000x1 .f32 :=
  select (broadcastInDim S3200000x1 ![0] bcast_S3200000_S3200000x1_0
      (Host.reduce IntOp.andi (inside I) (constantI S_ 1 1#1) reducesTo_S3200000x1_S3200000_d1 h_S_))
    (Host.gather gather_S10000x1_S3200000x1_S3200000x1_1_0_n_n_0_1_11 T (rows I))
    (broadcastInDim S3200000x1 ![] bcast_S_S3200000x1 (constant S_ .f32 0x7FC00000#32))

/-- A type in range asks for its own row. -/
theorem rows_apply (I : IVec S3200000 32) (e : Fin 3200000) (h : (I (ix1 e)).toNat < 10000) : rows I (ix2 e 0) = I (ix1 e) := by
  pointwise [rows]
  generalize I (ix1 e) = w at h ⊢
  word_omega

/-- With every type in range, every row lies in the table. -/
theorem inside_apply (I : IVec S3200000 32) (h : ∀ e, (I e).toNat < 10000) (i : S3200000x1.Idx) : inside I i = 1#1 := by
  obtain ⟨e, z, rfl⟩ : ∃ (e : Fin 3200000) (z : Fin 1), i = ix2 e z := ⟨i 0, i 1, eq_ix2 i⟩
  obtain rfl : z = 0 := Subsingleton.elim _ _
  pointwise [inside, rows_apply I e (h _)]
  have hw := h (ix1 e)
  generalize I (ix1 e) = w at hw ⊢
  word_omega

/-- With every type in range, an edge takes the entry of its type. -/
theorem taken_apply (T : FVec Ideal S10000x1 .f32) (I : IVec S3200000 32) (h : ∀ e, (I e).toNat < 10000) (e : Fin 3200000) :
    taken T I (ix2 e 0) = T (ix2 ⟨(I (ix1 e)).toNat % 10000, Nat.mod_lt _ (by decide)⟩ 0) := by
  have hr : Finset.fold IntOp.andi (1#1) (fun x : Fin 1 => inside I (ix2 e x)) Finset.univ = 1#1 := by
    rw [show (fun x : Fin 1 => inside I (ix2 e x)) = fun _ => 1#1 from funext fun x => inside_apply I h _]
    decide
  have hg : Host.gather gather_S10000x1_S3200000x1_S3200000x1_1_0_n_n_0_1_11 T (rows I) (ix2 e 0)
      = T (ix2 ⟨(I (ix1 e)).toNat % 10000, Nat.mod_lt _ (by decide)⟩ 0) :=
by
    have hb : rows I (ValueIdx.ix2 e (0 : Fin 1)) = BitVec.ofNat 32 (⟨(I (ix1 e)).toNat % 10000, Nat.mod_lt _ (by decide)⟩ : Fin 10000).val := by
      refine (rows_apply I e (h _)).trans (BitVec.eq_of_toNat_eq ?_)
      have hw := h (ix1 e)
      rw [BitVec.toNat_ofNat]
      show (I (ix1 e)).toNat = (I (ix1 e)).toNat % 10000 % 2 ^ 32
      omega
    exact Routing.gather_row gather_S10000x1_S3200000x1_S3200000x1_1_0_n_n_0_1_11 rfl rfl rfl rfl rfl T (rows I) e 0 _ hb (by decide)
  pointwise [taken]
  rw [hr, hg]
  rfl

/-! ## The result -/

/-- The reference's literals. -/
theorem two_lit : Ideal.ofBits .f32 0x40000000#32 = 2 := by
  simp [Ideal.ofBits, Ideal.ieee, -EReal.coe_mul]; norm_num; rfl
theorem five_lit : Ideal.ofBits .f32 0x40A00000#32 = 5 := by
  simp [Ideal.ofBits, Ideal.ieee, -EReal.coe_mul]; norm_num; rfl
theorem cube_lit : Ideal.ofBits .f32 0x42FA0000#32 = 125 := by
  simp [Ideal.ofBits, Ideal.ieee, -EReal.coe_mul]; norm_num; rfl

/-- The reference on the five arguments. -/
def result (X : FVec Ideal S3200000 .f32) (I : IVec S3200000 32) (Φ : FVec Ideal S16 .f32) (T U : FVec Ideal S10000x1 .f32)
    (e : Fin 3200000) (k : Fin 16) : EReal :=
  (Ideal.div (Ideal.sqrt (Ideal.div 2 125)) (Ideal.div (X (ix1 e)) 5) * Ideal.sin (Φ (ix1 k) * Ideal.div (X (ix1 e)) 5))
    * T (ix2 ⟨(I (ix1 e)).toNat % 10000, Nat.mod_lt _ (by decide)⟩ 0) + U (ix2 ⟨(I (ix1 e)).toNat % 10000, Nat.mod_lt _ (by decide)⟩ 0)

variable (m : (ℓ : Loc nD τ sig) → Buf (Elt Ideal) ℓ) (c : Dev nD)

/-- The reference at edge `e` and harmonic `k`, the types in range. -/
theorem result_apply (h : ∀ e, (m ((c.tc : Thread nD τ).loc main_arg1) e : BitVec 32).toNat < 10000) (e : Fin 3200000) (k : Fin 16) :
    Value.res_out0 (F := Ideal) m c (ix2 e k)
      = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) e k := by
  unfold result
  rw [← taken_apply (m ((c.tc : Thread nD τ).loc main_arg3)) _ h e, ← taken_apply (m ((c.tc : Thread nD τ).loc main_arg4)) _ h e]
  unfold Value.res_out0 Value.res_main_v19
  change addf (mulf (mulf _ _) (broadcastInDim _ _ _ (taken _ _))) (broadcastInDim _ _ _ (taken _ _)) _ = _
  pointwise
  rw [two_lit, five_lit, cube_lit]

end Cert.Radial.Reference

end
-- ==== Proof.Radial.Given.lean ====
/- What the precondition gives: types in the tables' range, and frequencies that are the whole multiples of a finite first one. -/
module

public import proofs.«01_k».proof.Defs
public import Idealize.ShloMosaic.Lib.Pointwise
public import Idealize.ShloMosaic.Lib.Tactic.WordOmega

@[expose] public section

set_option maxRecDepth 16384

noncomputable section

namespace Cert.Radial

open Idealize.ShloMosaic

/-- The shape relations that the precondition's operations state. -/
instance givenFacts : Cert.Pre_harmonics.Facts where
  slices_S16_S1_0 := by decide
  bcast_S_S16 := by decide
  bcast_S1_S16_0 := by decide
  bcast_S_S1 := by decide
  bcast_S_S3200000 := by decide

variable (X : FVec Ideal Cert.Pre_harmonics.S3200000 .f32) (I : IVec Cert.Pre_harmonics.S3200000 32)
  (Φ : FVec Ideal Cert.Pre_harmonics.S16 .f32) (T U : FVec Ideal Cert.Pre_harmonics.S10000x1 .f32)

/-- The types are rows of the tables. -/
theorem given_types (h : (Cert.Pre_harmonics.fn (F := Ideal) X I Φ T U).2.2 = fun _ => 1#1) (e : Cert.Pre_harmonics.S3200000.Idx) :
    (I e).toNat < 10000 := by
  obtain ⟨n, rfl⟩ : ∃ n : Fin 3200000, e = ix1 n := ⟨e 0, eq_ix1 e⟩
  have h' := congrFun h (ix1 n)
  revert h'
  unfold Cert.Pre_harmonics.fn
  pointwise
  generalize I (ix1 n) = w
  intro hw
  word_omega

/-- The first frequency is finite. -/
theorem given_finite (h : (Cert.Pre_harmonics.fn (F := Ideal) X I Φ T U).2.1 = fun _ => 1#1) : ∃ f : ℝ, Φ (ix1 0) = (f : EReal) := by
  have h' := congrFun h (ix1 0)
  revert h'
  unfold Cert.Pre_harmonics.fn
  pointwise
  generalize Φ (ix1 0) = w
  intro hw
  have hi : Ideal.ofBits .f32 0x7F800000#32 = ⊤ := by simp [Ideal.ofBits, Ideal.ieee]
  have hl : max (w : EReal) (-w) < ⊤ := by
    rw [← hi]
    by_contra hn
    rw [show decide (FloatOps.absf w < Ideal.ofBits .f32 0x7F800000#32) = false from decide_eq_false hn] at hw
    exact absurd hw (by decide)
  have ht : (w : EReal) ≠ ⊤ := ((le_max_left _ _).trans_lt hl).ne
  have hb : (w : EReal) ≠ ⊥ := fun e => absurd ((le_max_right (w : EReal) (-w)).trans_lt hl) (by rw [e]; simp)
  exact ⟨(w : EReal).toReal, (EReal.coe_toReal ht hb).symm⟩

/-- The word of a harmonic's number, read back. -/
theorem small : ∀ k : Fin 16, (BitVec.ofNat 32 k.val).toInt = (k.val : ℤ) := by decide

/-- Frequency `k` is `k + 1` times the first. -/
theorem given_multiple (h : (Cert.Pre_harmonics.fn (F := Ideal) X I Φ T U).1 = fun _ => 1#1) (k : Fin 16) :
    Φ (ix1 k) = (((k.val : ℝ) : EReal) + 1) * Φ (ix1 0) := by
  have h' := congrFun h (ix1 k)
  revert h'
  unfold Cert.Pre_harmonics.fn
  pointwise
  intro hk
  have he : Φ (ix1 k) = (FloatOps.sitofp (F := Ideal) FTy.f32 (BitVec.ofNat 32 k.val) + 1) * Φ (ix1 0) := by
    by_contra hn
    rw [decide_eq_false hn] at hk
    exact absurd hk (by decide)
  have hn : FloatOps.sitofp (F := Ideal) FTy.f32 (BitVec.ofNat 32 k.val) = ((k.val : ℝ) : EReal) := by
    show (((BitVec.ofNat 32 k.val).toInt : ℝ) : EReal) = _
    rw [show (BitVec.ofNat 32 k.val).toInt = (k.val : ℤ) from small k]
    rfl
  rw [he, hn]

end Cert.Radial

end
-- ==== Proof.Radial.Frames.lean ====
/- The claims that carry no value: each of the three programs runs, ends, and leaves its arguments as they were; and the
   two constants that the idealized kernel names are what the kernel's own literals stand for. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Claim

@[expose] public section

noncomputable section

namespace Cert.Radial

open Idealize.ShloMosaic Idealize.SL.Sem

/-- The kernel at bits runs, and leaves its arguments and every counter as the claim says. -/
theorem kernel_runs : Cert.quiescent_Kernel := fun m g _ => Cert.Kernel.Gen.frame m g

/-- So does its idealization. -/
theorem ideal_runs : Cert.quiescent_KernelIdeal := fun m g _ => Cert.KernelIdeal.Gen.frame m g

/-- The reference runs; it has no semaphore, so every counter is zero. -/
theorem reference_runs : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The two named constants: one fifth, and the root of two fifths. -/
theorem names_kept : Cert.preserves_Kernel_KernelIdeal :=
  ⟨IdealRules.named_const.statement Cert.KernelIdeal.κ "inv_cutoff" .f32 0x3E4CCCCD#32 ((1 / 5 : ℝ) : EReal) rfl,
    IdealRules.named_const.statement Cert.KernelIdeal.κ "norm_times_cutoff" .f32 0x3F21E89B#32 ((Real.sqrt (2 / 5) : ℝ) : EReal) rfl⟩

end Cert.Radial

end
-- ==== Proof.Radial.Equation.lean ====
/- The algebraic claim: under the precondition the kernel's result is the reference's; and the frame claims that carry the
   precondition. -/
module

public import proofs.«01_k».proof.Proof.Radial.Array
public import proofs.«01_k».proof.Proof.Radial.Reference
public import proofs.«01_k».proof.Proof.Radial.Given
public import proofs.«01_k».proof.Proof.Radial.Frames

@[expose] public section

set_option maxRecDepth 16384

noncomputable section

namespace Cert.Radial

open Idealize.ShloMosaic Idealize.ShloMosaic.TcCoe Idealize.SL.Sem

/-- The idealized kernel runs and keeps its arguments: the precondition is not needed. -/
theorem ideal_runs_given : Cert.quiescent_KernelIdeal_pre_harmonics := fun m g _ => ideal_runs m g trivial

/-- So does the reference. -/
theorem reference_runs_given : Cert.quiescent_ReferenceIdeal_pre_harmonics := fun m g _ => reference_runs m g trivial

open Cert.KernelIdeal in
/-- Under the precondition, harmonic `k` of edge `e` as the kernel computes it is the reference's. -/
theorem value_eq (m : (ℓ : Loc nD τ sig) → Buf (Elt Ideal) ℓ) (hp : Cert.Pre_KernelIdeal_harmonics m) (c : Dev nD)
    (e : Fin 3200000) (k : Fin 16) :
    value m c (ix1 e) k.val = Reference.result (argDist m c) (argType m c) (argFreq m c) (argMul m c) (argBias m c) e k := by
  obtain ⟨f, hf⟩ := given_finite _ _ _ _ _ (hp c).2.1
  have hk := given_multiple _ _ _ _ _ (hp c).1 k
  unfold value Reference.result
  rw [show argFreq m c (ix1 0) = (f : EReal) from hf,
    show argFreq m c (ix1 k) = (((k.val : ℝ) : EReal) + 1) * (f : EReal) from hk.trans (congrArg _ hf)]
  exact element_eq _ _ _ f k.val

/-- The kernel at the ideal instance ends with the reference's result. -/
theorem values_agree : Cert.algebraic_KernelIdeal_ReferenceIdeal_pre_harmonics := by
  intro m g m' g' hp hagree
  have ht : ∀ c e, (argType m c e).toNat < 10000 := fun c e => given_types _ _ _ _ _ (hp c).2.2 e
  refine ⟨_, kernel_values m ht g, ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4⟩ := hagree c
  funext i
  obtain ⟨e, k, rfl⟩ : ∃ (e : Fin 3200000) (k : Fin 16), i = ix2 e k := ⟨i 0, i 1, eq_ix2 i⟩
  refine (Reference.result_apply m' c (fun j => (congrArg BitVec.toNat (congrFun h1 j)).trans_lt (ht c j)) e k).trans ?_
  rw [h0, h1, h2, h3, h4]
  exact (value_eq m hp c e k).symm

end Cert.Radial

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Radial.Equation
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Radial.givenFacts,
    Cert.Radial.kernel_runs, Cert.Radial.ideal_runs, Cert.Radial.ideal_runs_given, Cert.Radial.reference_runs,
    Cert.Radial.reference_runs_given, Cert.Radial.names_kept, Cert.Radial.values_agree⟩

end Cert.Proof

end
